-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_phi_finite [hPre_phi_finite : Cert.Pre_phi_finite.Facts] (m : (ℓ : Loc Cert.KernelIdeal.nD Cert.KernelIdeal.τ Cert.KernelIdeal.sig) → Buf (Elt Ideal) ℓ) : Prop :=
  ∀ c : Dev Cert.KernelIdeal.nD,
    (Cert.Pre_phi_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_phi_finite [hPre_phi_finite : Cert.Pre_phi_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_phi_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_phi_finite [hKernelIdeal : Cert.KernelIdeal.Facts] [hPre_phi_finite : Cert.Pre_phi_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_phi_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_phi_finite [hReferenceIdeal : Cert.ReferenceIdeal.Facts] [hPre_phi_finite : Cert.Pre_phi_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_phi_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_phi_finite [hKernelIdeal : Cert.KernelIdeal.Facts] [hReferenceIdeal : Cert.ReferenceIdeal.Facts] [hPre_phi_finite : Cert.Pre_phi_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_phi_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_phi_finite : Cert.Pre_phi_finite.Facts),
    quiescent_Kernel (hKernel := hKernel)
    ∧ quiescent_KernelIdeal (hKernelIdeal := hKernelIdeal)
    ∧ quiescent_KernelIdeal_pre_phi_finite (hKernelIdeal := hKernelIdeal) (hPre_phi_finite := hPre_phi_finite)
    ∧ quiescent_ReferenceIdeal (hReferenceIdeal := hReferenceIdeal)
    ∧ quiescent_ReferenceIdeal_pre_phi_finite (hReferenceIdeal := hReferenceIdeal) (hPre_phi_finite := hPre_phi_finite)
    ∧ preserves_Kernel_KernelIdeal
    ∧ algebraic_KernelIdeal_ReferenceIdeal_pre_phi_finite (hKernelIdeal := hKernelIdeal) (hReferenceIdeal := hReferenceIdeal) (hPre_phi_finite := hPre_phi_finite)
-- ==== Pre_phi_finite.lean ====
abbrev S4x2880x64 : Shape := ⟨3, ![4, 2880, 64]⟩
abbrev S1x1x64 : Shape := ⟨3, ![1, 1, 64]⟩
abbrev S2880x64 : Shape := ⟨2, ![2880, 64]⟩
abbrev S_ : Shape := ⟨0, ![]⟩

class Facts : Prop where
  bcast_S_S1x1x64 : S_.BroadcastsInDim S1x1x64 (![] : Fin 0 → Fin S1x1x64.rank)
  reducesTo_S1x1x64_S_d0_1_2 : S1x1x64.ReducesTo [0, 1, 2] S_
  h_S_ : 0 < S_.numel

variable [Facts]

def fn {F : FTy → Type} [FloatOps F] (main_arg0 : FVec F S4x2880x64 .f32) (main_arg1 : FVec F S1x1x64 .f32) (main_arg2 : FVec F S2880x64 .f32) : IVec S_ 1 :=
  let main_v0 : FVec F S1x1x64 .f32 := Host.absf main_arg1
  let main_cst : FVec F S_ .f32 := constant S_ .f32 0x7F800000#32
  let main_v1 : FVec F S1x1x64 .f32 := broadcastInDim S1x1x64 ![] bcast_S_S1x1x64 main_cst
  let main_v2 : IVec S1x1x64 1 := cmpf .olt main_v0 main_v1
  let main_c : IVec S_ 1 := constantI S_ 1 1#1
  let main_v3 : IVec S_ 1 := (fun x v => Host.reduce IntOp.andi x v reducesTo_S1x1x64_S_d0_1_2 h_S_) main_v2 main_c
  main_v3
-- ==== Kernel.lean ====
abbrev S4x2880x64 : Shape := ⟨3, ![4, 2880, 64]⟩
abbrev S1x1x64 : Shape := ⟨3, ![1, 1, 64]⟩
abbrev S2880x64 : Shape := ⟨2, ![2880, 64]⟩
abbrev S4x64x64 : Shape := ⟨3, ![4, 64, 64]⟩
abbrev S64x64 : Shape := ⟨2, ![64, 64]⟩
abbrev S1x64 : Shape := ⟨2, ![1, 64]⟩
abbrev S64x1 : Shape := ⟨2, ![64, 1]⟩
abbrev S64 : Shape := ⟨1, ![64]⟩
abbrev S1 : Shape := ⟨1, ![1]⟩
abbrev S1x1x1 : Shape := ⟨3, ![1, 1, 1]⟩
abbrev S1x1 : Shape := ⟨2, ![1, 1]⟩
abbrev S1x64x64 : Shape := ⟨3, ![1, 64, 64]⟩

abbrev nBuf : Space → Nat
  | .hbm => 4
  | .vmem => 7
  | .smem => 0
  | _ => 0

abbrev bufTy : (tb : Table) → Fin (tcTables nBuf tb) → BufTy
  | .hbm, ⟨0, _⟩ => ⟨S4x2880x64, .f32⟩
  | .hbm, ⟨1, _⟩ => ⟨S1x1x64, .f32⟩
  | .hbm, ⟨2, _⟩ => ⟨S2880x64, .f32⟩
  | .hbm, ⟨3, _⟩ => ⟨S4x2880x64, .f32⟩
  | .local _ .vmem, ⟨0, _⟩ => ⟨S4x64x64, .f32⟩
  | .local _ .vmem, ⟨1, _⟩ => ⟨S4x64x64, .f32⟩
  | .local _ .vmem, ⟨2, _⟩ => ⟨S1x1x64, .f32⟩
  | .local _ .vmem, ⟨3, _⟩ => ⟨S64x64, .f32⟩
  | .local _ .vmem, ⟨4, _⟩ => ⟨S64x64, .f32⟩
  | .local _ .vmem, ⟨5, _⟩ => ⟨S4x64x64, .f32⟩
  | .local _ .vmem, ⟨6, _⟩ => ⟨S4x64x64, .f32⟩
  | _, _ => ⟨S4x2880x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![45], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x2880x64 : Shape := ⟨3, ![4, 2880, 64]⟩
abbrev S1x1x64 : Shape := ⟨3, ![1, 1, 64]⟩
abbrev S2880x64 : Shape := ⟨2, ![2880, 64]⟩
abbrev S2880 : Shape := ⟨1, ![2880]⟩
abbrev S_ : Shape := ⟨0, ![]⟩
abbrev S2880x1 : Shape := ⟨2, ![2880, 1]⟩
abbrev S1x2880x64 : Shape := ⟨3, ![1, 2880, 64]⟩
abbrev S4x2880x2880 : Shape := ⟨3, ![4, 2880, 2880]⟩
abbrev S1x2880 : Shape := ⟨2, ![1, 2880]⟩
abbrev S2880x2880 : Shape := ⟨2, ![2880, 2880]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x8 : Shape := ⟨2, ![64, 8]⟩
abbrev S512 : Shape := ⟨1, ![512]⟩
abbrev S512x1 : Shape := ⟨2, ![512, 1]⟩
abbrev S45x64 : Shape := ⟨2, ![45, 64]⟩
abbrev S1x2880x2880 : Shape := ⟨3, ![1, 2880, 2880]⟩
abbrev S4x2880 : Shape := ⟨2, ![4, 2880]⟩
abbrev S4x2880x1 : Shape := ⟨3, ![4, 2880, 1]⟩

abbrev nBuf : Space → Nat
  | .hbm => 100
  | .vmem => 0
  | .smem => 0
  | _ => 0

abbrev bufTy : (tb : Table) → Fin (tcTables nBuf tb) → BufTy
  | .hbm, ⟨0, _⟩ => ⟨S4x2880x64, .f32⟩
  | .hbm, ⟨1, _⟩ => ⟨S1x1x64, .f32⟩
  | .hbm, ⟨2, _⟩ => ⟨S2880x64, .f32⟩
  | .hbm, ⟨3, _⟩ => ⟨S2880, .i32⟩
  | .hbm, ⟨4, _⟩ => ⟨S_, .i32⟩
  | .hbm, ⟨5, _⟩ => ⟨S2880, .i32⟩
  | .hbm, ⟨6, _⟩ => ⟨S2880, .i1⟩
  | .hbm, ⟨7, _⟩ => ⟨S_, .i32⟩
  | .hbm, ⟨8, _⟩ => ⟨S2880, .i32⟩
  | .hbm, ⟨9, _⟩ => ⟨S2880, .i32⟩
  | .hbm, ⟨10, _⟩ => ⟨S2880, .i32⟩
  | .hbm, ⟨11, _⟩ => ⟨S2880x1, .i32⟩
  | .hbm, ⟨12, _⟩ => ⟨S2880x64, .f32⟩
  | .hbm, ⟨13, _⟩ => ⟨S1x2880x64, .f32⟩
  | .hbm, ⟨14, _⟩ => ⟨S4x2880x64, .f32⟩
  | .hbm, ⟨15, _⟩ => ⟨S4x2880x64, .f32⟩
  | .hbm, ⟨16, _⟩ => ⟨S4x2880x64, .f32⟩
  | .hbm, ⟨17, _⟩ => ⟨S4x2880x64, .f32⟩
  | .hbm, ⟨18, _⟩ => ⟨S4x2880x2880, .f32⟩
  | .hbm, ⟨19, _⟩ => ⟨S_, .f32⟩
  | .hbm, ⟨20, _⟩ => ⟨S4x2880x2880, .f32⟩
  | .hbm, ⟨21, _⟩ => ⟨S4x2880x2880, .f32⟩
  | .hbm, ⟨22, _⟩ => ⟨S2880, .i32⟩
  | .hbm, ⟨23, _⟩ => ⟨S_, .i32⟩
  | .hbm, ⟨24, _⟩ => ⟨S_, .i32⟩
  | .hbm, ⟨25, _⟩ => ⟨S2880, .i32⟩
  | .hbm, ⟨26, _⟩ => ⟨S2880, .i32⟩
  | .hbm, ⟨27, _⟩ => ⟨S2880, .i32⟩
  | .hbm, ⟨28, _⟩ => ⟨S_, .i32⟩
  | .hbm, ⟨29, _⟩ => ⟨S2880, .i32⟩
  | .hbm, ⟨30, _⟩ => ⟨S2880, .i1⟩
  | .hbm, ⟨31, _⟩ => ⟨S2880, .i32⟩
  | .hbm, ⟨32, _⟩ => ⟨S2880, .i32⟩
  | .hbm, ⟨33, _⟩ => ⟨S_, .i32⟩
  | .hbm, ⟨34, _⟩ => ⟨S2880, .i32⟩
  | .hbm, ⟨35, _⟩ => ⟨S2880, .i1⟩
  | .hbm, ⟨36, _⟩ => ⟨S2880, .i1⟩
  | .hbm, ⟨37, _⟩ => ⟨S_, .i32⟩
  | .hbm, ⟨38, _⟩ => ⟨S2880, .i32⟩
  | .hbm, ⟨39, _⟩ => ⟨S2880, .i32⟩
  | .hbm, ⟨40, _⟩ => ⟨S2880, .i32⟩
  | .hbm, ⟨41, _⟩ => ⟨S2880x1, .i32⟩
  | .hbm, ⟨42, _⟩ => ⟨S1x2880, .i32⟩
  | .hbm, ⟨43, _⟩ => ⟨S2880x2880, .i32⟩
  | .hbm, ⟨44, _⟩ => ⟨S2880x2880, .i32⟩
  | .hbm, ⟨45, _⟩ => ⟨S2880x2880, .i1⟩
  | .hbm, ⟨46, _⟩ => ⟨S64, .f32⟩
  | .hbm, ⟨47, _⟩ => ⟨S64x1, .f32⟩
  | .hbm, ⟨48, _⟩ => ⟨S1x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x8, .f32⟩
  | .hbm, ⟨54, _⟩ => ⟨S64x8, .i32⟩
  | .hbm, ⟨55, _⟩ => ⟨S_, .i1⟩
  | .hbm, ⟨56, _⟩ => ⟨S64, .i1⟩
  | .hbm, ⟨57, _⟩ => ⟨S512, .i32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S_, .i1⟩
  | .hbm, ⟨67, _⟩ => ⟨S512, .i1⟩
  | .hbm, ⟨68, _⟩ => ⟨S64, .i1⟩
  | .hbm, ⟨69, _⟩ => ⟨S1x64, .i1⟩
  | .hbm, ⟨70, _⟩ => ⟨S45x64, .i1⟩
  | .hbm, ⟨71, _⟩ => ⟨S2880, .i1⟩
  | .hbm, ⟨72, _⟩ => ⟨S2880x1, .i1⟩
  | .hbm, ⟨73, _⟩ => ⟨S2880x2880, .i1⟩
  | .hbm, ⟨74, _⟩ => ⟨S2880x2880, .i1⟩
  | .hbm, ⟨75, _⟩ => ⟨S1x2880x2880, .i1⟩
  | .hbm, ⟨76, _⟩ => ⟨S_, .f32⟩
  | .hbm, ⟨77, _⟩ => ⟨S_, .f32⟩
  | .hbm, ⟨78, _⟩ => ⟨S4x2880x2880, .i1⟩
  | .hbm, ⟨79, _⟩ => ⟨S4x2880x2880, .f32⟩
  | .hbm, ⟨80, _⟩ => ⟨S4x2880x2880, .f32⟩
  | .hbm, ⟨81, _⟩ => ⟨S_, .f32⟩
  | .hbm, ⟨82, _⟩ => ⟨S4x2880, .f32⟩
  | .hbm, ⟨83, _⟩ => ⟨S_, .f32⟩
  | .hbm, ⟨84, _⟩ => ⟨S4x2880, .f32⟩
  | .hbm, ⟨85, _⟩ => ⟨S4x2880, .f32⟩
  | .hbm, ⟨86, _⟩ => ⟨S4x2880x1, .f32⟩
  | .hbm, ⟨87, _⟩ => ⟨S4x2880x2880, .f32⟩
  | .hbm, ⟨88, _⟩ => ⟨S4x2880x2880, .f32⟩
  | .hbm, ⟨89, _⟩ => ⟨S4x2880x2880, .f32⟩
  | .hbm, ⟨90, _⟩ => ⟨S_, .f32⟩
  | .hbm, ⟨91, _⟩ => ⟨S4x2880, .f32⟩
  | .hbm, ⟨92, _⟩ => ⟨S4x2880x1, .f32⟩
  | .hbm, ⟨93, _⟩ => ⟨S4x2880x2880, .f32⟩
  | .hbm, ⟨94, _⟩ => ⟨S4x2880x2880, .f32⟩
  | .hbm, ⟨95, _⟩ => ⟨S1x2880x2880, .i1⟩
  | .hbm, ⟨96, _⟩ => ⟨S1x2880x2880, .f32⟩
  | .hbm, ⟨97, _⟩ => ⟨S4x2880x2880, .f32⟩
  | .hbm, ⟨98, _⟩ => ⟨S4x2880x2880, .f32⟩
  | .hbm, ⟨99, _⟩ => ⟨S4x2880x64, .f32⟩
  | _, _ => ⟨S4x2880x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_values : Ref sig .tc := ⟨.hbm, 53, rfl⟩
abbrev main_indices : Ref sig .tc := ⟨.hbm, 54, rfl⟩
abbrev main_c_2 : Ref sig .tc := ⟨.hbm, 55, rfl⟩
abbrev main_v30 : Ref sig .tc := ⟨.hbm, 56, rfl⟩
abbrev main_v31 : Ref sig .tc := ⟨.hbm, 57, rfl⟩
abbrev main_c_3 : Ref sig .tc := ⟨.hbm, 58, rfl⟩
abbrev main_v32 : Ref sig .tc := ⟨.hbm, 59, rfl⟩
abbrev main_v33 : Ref sig .tc := ⟨.hbm, 60, rfl⟩
abbrev main_c_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩

abbrev nD : Nat := 1
abbrev τ : Topo := Topo.v7x

variable {F : FTy → Type} [FloatOps F]
-- ==== Proof.Select.lean ====
module

public import Idealize.ShloMosaic.Lib.SortFacts
public import Mathlib.Data.EReal.Operations

@[expose] public section

noncomputable section

namespace Cert.Select

open Idealize.ShloMosaic

/-! ## A stable sort by decreasing key, in places -/

/-- Place `k` comes ahead of place `i` in the stable order by decreasing key: its key is greater, or
    the keys are equal and `k` is the earlier place. -/
def Ahead {n : Nat} (key : Fin n → EReal) (k i : Fin n) : Prop := key i < key k ∨ (key k = key i ∧ k < i)

/-- No place is ahead of itself. -/
theorem ahead_irrefl {n : Nat} (key : Fin n → EReal) (i : Fin n) : ¬ Ahead key i i := by
  rintro (h | h)
  · exact lt_irrefl _ h
  · exact lt_irrefl _ h.2

/-- Of two places at most one is ahead of the other. -/
theorem ahead_asymm {n : Nat} (key : Fin n → EReal) (i k : Fin n) (h : Ahead key k i) : ¬ Ahead key i k := by
  rintro (h' | h')
  · rcases h with h | h
    · exact lt_asymm h h'
    · exact absurd h.1 (ne_of_lt h')
  · rcases h with h | h
    · exact absurd h'.1 (ne_of_lt h)
    · exact lt_asymm h.2 h'.2

/-- Inserting place `a` into a list of later places already in order keeps the order. -/
theorem pairwise_insert {n : Nat} (key : Fin n → EReal) (a : Fin n) (l : List (Fin n))
    (hl : l.Pairwise (Ahead key)) (ha : ∀ c ∈ l, a < c) :
    (insertBefore (fun k k' => decide (key k' < key k)) a l).Pairwise (Ahead key) := by
  induction l with
  | nil => exact List.pairwise_singleton _ _
  | cons b l ih =>
    rw [List.pairwise_cons] at hl
    unfold insertBefore
    split
    · rename_i h
      have h := of_decide_eq_true h
      refine List.pairwise_cons.mpr ⟨fun c hc => ?_, ih hl.2 fun c hc => ha c (List.mem_cons_of_mem b hc)⟩
      rcases List.mem_cons.mp ((perm_insertBefore _ a l).mem_iff.mp hc) with rfl | hc'
      · exact Or.inl h
      · exact hl.1 c hc'
    · rename_i h
      have h := fun h' => h (decide_eq_true h')
      have hab : key b ≤ key a := not_lt.mp h
      refine List.pairwise_cons.mpr ⟨fun c hc => ?_, List.pairwise_cons.mpr hl⟩
      have hac := ha c hc
      have hcb : key c ≤ key a := by
        rcases List.mem_cons.mp hc with rfl | hc'
        · exact hab
        · rcases hl.1 c hc' with h | h
          · exact h.le.trans hab
          · exact h.1.ge.trans hab
      rcases hcb.lt_or_eq with h | h
      · exact Or.inl h
      · exact Or.inr ⟨h.symm, hac⟩

/-- The stable sort by decreasing key of a list of increasing places is in order. -/
theorem pairwise_sort {n : Nat} (key : Fin n → EReal) (l : List (Fin n)) (hl : l.Pairwise (· < ·)) :
    (stableSort (fun k k' => decide (key k' < key k)) l).Pairwise (Ahead key) := by
  induction l with
  | nil => exact List.Pairwise.nil
  | cons a l ih =>
    rw [List.pairwise_cons] at hl
    unfold stableSort
    exact pairwise_insert key a _ (ih hl.2) fun c hc => hl.1 c ((perm_stableSort _ l).mem_iff.mp hc)

/-- An earlier entry of the sort is ahead of a later one. -/
theorem ahead_sortedFrom {n : Nat} (key : Fin n → EReal) (p q : Fin n) (h : p < q) :
    Ahead key (sortedFrom (fun k k' => decide (key k' < key k)) p) (sortedFrom (fun k k' => decide (key k' < key k)) q) := by
  have hp := List.pairwise_iff_get.mp (pairwise_sort key (List.finRange n) (List.pairwise_lt_finRange n))
  unfold sortedFrom
  exact hp _ _ (show p.val < q.val from h)

open Classical in
/-- How many places are ahead of place `i`. -/
def rank {n : Nat} (key : Fin n → EReal) (i : Fin n) : Nat := (Finset.univ.filter fun k => Ahead key k i).card

/-- The place that the sort puts at `p` has exactly `p` places ahead of it. -/
theorem rank_sortedFrom {n : Nat} (key : Fin n → EReal) (p : Fin n) :
    rank key (sortedFrom (fun k k' => decide (key k' < key k)) p) = p.val := by
  classical
  have hs : (Finset.univ.filter fun k => Ahead key k (sortedFrom (fun k k' => decide (key k' < key k)) p))
      = (Finset.Iio p).image (sortedFrom fun k k' => decide (key k' < key k)) := by
    ext k
    obtain ⟨q, rfl⟩ := sortedFrom_surjective (fun k k' => decide (key k' < key k)) k
    simp only [Finset.mem_filter, Finset.mem_univ, true_and, Finset.mem_image, Finset.mem_Iio]
    constructor
    · intro h
      refine ⟨q, ?_, rfl⟩
      rcases lt_trichotomy q p with h' | h' | h'
      · exact h'
      · subst h'; exact absurd h (ahead_irrefl key _)
      · exact absurd h (ahead_asymm key _ _ (ahead_sortedFrom key _ _ h'))
    · rintro ⟨q', h, e⟩
      rw [← e]
      exact ahead_sortedFrom key _ _ h
  unfold rank
  rw [show (Finset.univ.filter fun k => Ahead key k (sortedFrom (fun k k' => decide (key k' < key k)) p)) = _ from hs,
    Finset.card_image_of_injective _ (sortedFrom_injective _), Fin.card_Iio]

/-- Place `i` is among the first `K` of the sort exactly when fewer than `K` places are ahead of it. -/
theorem mem_first_iff {n : Nat} (key : Fin n → EReal) (i : Fin n) (K : Nat) :
    (∃ p : Fin n, p.val < K ∧ sortedFrom (fun k k' => decide (key k' < key k)) p = i) ↔ rank key i < K := by
  constructor
  · rintro ⟨p, h, rfl⟩
    rw [rank_sortedFrom]; exact h
  · intro h
    obtain ⟨p, rfl⟩ := sortedFrom_surjective (fun k k' => decide (key k' < key k)) i
    rw [rank_sortedFrom] at h
    exact ⟨p, h, rfl⟩

/-! ## Which rows some column of `v vᵀ` puts among its `K` greatest -/

/-- Equal orders give equal counts. -/
theorem rank_congr {n : Nat} (f g : Fin n → EReal) (i : Fin n) (h : ∀ k, Ahead f k i ↔ Ahead g k i) : rank f i = rank g i := by
  classical
  unfold rank
  exact congrArg Finset.card (Finset.filter_congr fun k _ => h k)

/-- Multiplying every key by a positive number keeps the order. -/
theorem rank_mul_pos {n : Nat} (r : Fin n → ℝ) (c : ℝ) (hc : 0 < c) (i : Fin n) :
    rank (fun k => (r k : EReal) * (c : EReal)) i = rank (fun k => (r k : EReal)) i := by
  refine rank_congr _ _ _ fun k => ?_
  simp only [Ahead]
  norm_cast
  rw [mul_lt_mul_iff_left₀ hc, mul_left_inj' hc.ne']

/-- Multiplying every key by a negative number reverses the order. -/
theorem rank_mul_neg {n : Nat} (r : Fin n → ℝ) (c : ℝ) (hc : c < 0) (i : Fin n) :
    rank (fun k => (r k : EReal) * (c : EReal)) i = rank (fun k => ((-r k : ℝ) : EReal)) i := by
  refine rank_congr _ _ _ fun k => ?_
  simp only [Ahead]
  norm_cast
  rw [mul_lt_mul_right_of_neg hc, mul_left_inj' hc.ne, neg_lt_neg_iff, neg_inj]

/-- Multiplying every key by zero leaves the places in their own order. -/
theorem rank_mul_zero {n : Nat} (r : Fin n → ℝ) (i : Fin n) :
    rank (fun k => (r k : EReal) * ((0 : ℝ) : EReal)) i = i.val := by
  classical
  unfold rank
  rw [← Fin.card_Iio]
  refine congrArg Finset.card (Finset.ext fun k => ?_)
  simp [Ahead]

/-- Row `i` is chosen: for some column of the outer product of `v` with itself it is among the eight greatest, earlier rows first among equals. -/
def Chosen (v : Fin 64 → EReal) (i : Fin 64) : Prop := ∃ j, rank (fun k => v k * v j) i < 8

/-- For finite `v`: some column `k ↦ v k * v j` has row `i` among its `K` greatest, ties to the earlier row, exactly when
    `v` has a positive element and fewer than `K` elements are ahead of `v i` downward, or it has a negative element and fewer
    than `K` are ahead of it upward, or it has a zero and `i < K`. -/
theorem exists_column_iff {n : Nat} (v : Fin n → EReal) (hv : ∀ k, v k ≠ ⊥ ∧ v k ≠ ⊤) (i : Fin n) (K : Nat) :
    (∃ j, rank (fun k => v k * v j) i < K) ↔
      (rank v i < K ∧ ∃ j, 0 < v j) ∨ (rank (fun k => - v k) i < K ∧ ∃ j, v j < 0) ∨ (i.val < K ∧ ∃ j, v j = 0) := by
  obtain ⟨r, rfl⟩ : ∃ r : Fin n → ℝ, v = fun k => (r k : EReal) :=
    ⟨fun k => (v k).toReal, funext fun k => (EReal.coe_toReal (hv k).2 (hv k).1).symm⟩
  have hneg : (fun k => - (r k : EReal)) = fun k => ((-r k : ℝ) : EReal) := funext fun k => (EReal.coe_neg _).symm
  simp only [hneg, EReal.coe_pos, EReal.coe_neg', EReal.coe_eq_zero]
  constructor
  · rintro ⟨j, h⟩
    rcases lt_trichotomy (r j) 0 with hj | hj | hj
    · rw [rank_mul_neg r _ hj] at h
      exact Or.inr (Or.inl ⟨h, j, hj⟩)
    · rw [hj, rank_mul_zero] at h
      exact Or.inr (Or.inr ⟨h, j, hj⟩)
    · rw [rank_mul_pos r _ hj] at h
      exact Or.inl ⟨h, j, hj⟩
  · rintro (⟨h, j, hj⟩ | ⟨h, j, hj⟩ | ⟨h, j, hj⟩) <;> refine ⟨j, ?_⟩
    · rwa [rank_mul_pos r _ hj]
    · rwa [rank_mul_neg r _ hj]
    · rwa [hj, rank_mul_zero]

end Cert.Select

end
-- ==== Proof.KSel.lean ====
module

public import proofs.«01_k».proof.Proof.Gen.KernelIdeal.Value
public import proofs.«01_k».proof.Proof.Select
public import Idealize.ShloMosaic.Lib.Pointwise
public import Idealize.ShloMosaic.Lib.Pipeline.ValueKit

@[expose] public section

set_option maxRecDepth 16384

noncomputable section

namespace Cert.KernelIdeal.Sel

open Cert.KernelIdeal Cert.KernelIdeal.Gen Idealize.ShloMosaic Idealize.ShloMosaic.TcCoe Idealize.SL.Sem

/-- The start of a greatest is minus infinity. -/
theorem ofBits_ninf : Ideal.ofBits .f32 4286578688#32 = ⊥ := by
  simp [Ideal.ofBits, Ideal.ieee, -EReal.coe_mul]

/-- The count compared with is eight. -/
theorem ofBits_eight : Ideal.ofBits .f32 1090519040#32 = ((8 : ℝ) : EReal) := by
  simp [Ideal.ofBits, Ideal.ieee, -EReal.coe_mul]; norm_num

/-- The scale is an eighth. -/
theorem ofBits_eighth : Ideal.ofBits .f32 1040187392#32 = ((1 / 8 : ℝ) : EReal) := by
  simp [Ideal.ofBits, Ideal.ieee, -EReal.coe_mul]; norm_num

/-- A disjunction of bits. -/
theorem or_one : ∀ a b : BitVec 1, IntOp.ori a b = 1#1 ↔ a = 1#1 ∨ b = 1#1 := by decide

/-- A conjunction of bits. -/
theorem and_one : ∀ a b : BitVec 1, IntOp.andi a b = 1#1 ↔ a = 1#1 ∧ b = 1#1 := by decide

/-- A decided proposition's bit. -/
theorem bit_one (p : Prop) [Decidable p] : BitVec.ofBool (decide p) = 1#1 ↔ p := by
  by_cases h : p <;> simp [h]

/-- The signed comparison of two positions. -/
theorem slt_one (a b : Fin 64) : IntOp.cmpi .slt (BitVec.ofNat 32 a.val) (BitVec.ofNat 32 b.val) = 1#1 ↔ a < b := by
  revert a b; decide +kernel

/-- The signed comparison of a position with eight. -/
theorem slt_eight (a : Fin 64) : IntOp.cmpi .slt (BitVec.ofNat 32 a.val) 8#32 = 1#1 ↔ a.val < 8 := by
  revert a; decide +kernel

open Classical in
/-- A bit as a number. -/
theorem sitofp_bit (w : BitVec 1) (p : Prop) (h : w = 1#1 ↔ p) : (FloatOps.sitofp .f32 (BitVec.setWidth 32 w) : Ideal .f32) = if p then (1 : EReal) else 0 := by
  show (((BitVec.setWidth 32 w).toInt : ℝ) : EReal) = _
  rcases (by decide : ∀ w : BitVec 1, w = 0#1 ∨ w = 1#1) w with e | e
  · subst e
    rw [if_neg fun hp => absurd (h.2 hp) (by decide)]
    simp
  · subst e
    rw [if_pos (h.1 rfl)]
    simp

open Classical in
/-- A sum of bits, compared with eight, compares the count of those set. -/
theorem count_lt (w : Fin 64 → BitVec 1) (key : Fin 64 → EReal) (i : Fin 64) (h : ∀ k, w k = 1#1 ↔ Select.Ahead key k i) :
    (∑ k, (FloatOps.sitofp .f32 (BitVec.setWidth 32 (w k)) : Ideal .f32)) < Ideal.ofBits .f32 1090519040#32 ↔ Select.rank key i < 8 := by
  have e : (∑ k, (FloatOps.sitofp .f32 (BitVec.setWidth 32 (w k)) : Ideal .f32)) = ((Select.rank key i : ℝ) : EReal) := by
    refine (Finset.sum_congr rfl fun k _ => sitofp_bit (w k) _ (h k)).trans ?_
    rw [Finset.sum_boole]
    rfl
  rw [ofBits_eight]
  refine (iff_of_eq (congrArg (· < ((8 : ℝ) : EReal)) e)).trans ?_
  norm_cast

open Classical in
/-- The greatest of bits is positive when one is set. -/
theorem any_pos (p : Fin 64 → Prop) (w : Fin 1 × Fin 64 → BitVec 1) (h : ∀ k, w k = 1#1 ↔ p k.2) :
    (0 : EReal) < Finset.univ.fold max (Ideal.ofBits .f32 4286578688#32) (fun k => (FloatOps.sitofp .f32 (BitVec.setWidth 32 (w k)) : Ideal .f32)) ↔ ∃ j, p j := by
  rw [ofBits_ninf]
  refine (Finset.lt_fold_max _).trans ?_
  constructor
  · rintro (h0 | ⟨k, _, hk⟩)
    · exact absurd h0 not_lt_bot
    · refine ⟨k.2, ?_⟩
      by_contra hn
      rw [sitofp_bit (w k) _ (h k), if_neg hn] at hk
      exact lt_irrefl _ hk
  · rintro ⟨j, hj⟩
    refine Or.inr ⟨(0, j), Finset.mem_univ _, ?_⟩
    rw [sitofp_bit (w (0, j)) _ (h (0, j)), if_pos hj]
    exact zero_lt_one

/-- The selection column the first point computes. -/
def selCol (v0 : Vec Ideal S1x1x64 .f32) : FVec Ideal S64x1 .f32 :=
  k0_pay11 (k0_pay6 v0) (k0_pay7 v0) (k0_pay8 v0) (k0_pay9 v0) (k0_pay10 v0)

open Classical in
/-- It is one at the chosen rows and zero elsewhere, for a vector of finite entries. -/
theorem selCol_at (v0 : Vec Ideal S1x1x64 .f32) (hv : ∀ k : Fin 64, v0 (ix3 0 0 k) ≠ ⊥ ∧ v0 (ix3 0 0 k) ≠ ⊤) (i : Fin 64) (z : Fin 1) :
    selCol v0 (ix2 i z) = if Select.Chosen (fun k => v0 (ix3 0 0 k)) i then (1 : EReal) else 0 := by
  unfold selCol
  pointwise [k0_pay11, k0_pay10, k0_pay9, k0_pay8, k0_pay7, k0_pay6, k0_pay5, k0_pay4, k0_pay3, k0_pay2]
  refine sitofp_bit _ _ ?_
  unfold Select.Chosen
  rw [Select.exists_column_iff _ hv]
  simp only [or_one, and_one, bit_one, slt_eight]
  refine (or_congr (or_congr (and_congr ?_ ?_) (and_congr ?_ ?_)) (and_congr Iff.rfl ?_)).trans or_assoc
  · refine count_lt _ _ i fun k => ?_
    simp only [or_one, and_one, bit_one, slt_one]
    exact Iff.rfl
  · refine any_pos _ _ fun k => ?_
    rw [bit_one, Subsingleton.elim k.1 0]
  · refine count_lt _ _ i fun k => ?_
    simp only [or_one, and_one, bit_one, slt_one, Select.Ahead, EReal.neg_lt_neg_iff, neg_inj]
  · refine any_pos _ _ fun k => ?_
    rw [bit_one, Subsingleton.elim k.1 0]
  · refine any_pos _ _ fun k => ?_
    rw [bit_one, Subsingleton.elim k.1 0]

end Cert.KernelIdeal.Sel

end
-- ==== Proof.RefParts.lean ====
module

public import proofs.«01_k».proof.Proof.Gen.ReferenceIdeal.Run

@[expose] public section

set_option maxRecDepth 16384

noncomputable section

namespace Cert.ReferenceIdeal.Parts

open Cert.ReferenceIdeal Cert.ReferenceIdeal.Gen Idealize.ShloMosaic Idealize.ShloMosaic.TcCoe Idealize.SL.Sem

variable {F : FTy → Type} [FloatOps F]

/-- The block number of each position: the position's floor quotient by 64, as the reference computes it. -/
def blockId : IVec S2880 32 :=
  select (andi (cmpi .ne (signi (iotaInDim S2880 32 0)) (broadcastInDim S2880 ![] bcast_S_S2880 (signi (id (constantI S_ 32 64#32))))) (cmpi .ne (Host.remsi (iotaInDim S2880 32 0) (broadcastInDim S2880 ![] bcast_S_S2880 (id (constantI S_ 32 64#32)))) (broadcastInDim S2880 ![] bcast_S_S2880 (constantI S_ 32 0#32)))) (subi (Host.divsi (iotaInDim S2880 32 0) (broadcastInDim S2880 ![] bcast_S_S2880 (id (constantI S_ 32 64#32)))) (broadcastInDim S2880 ![] bcast_S_S2880 (constantI S_ 32 1#32))) (Host.divsi (iotaInDim S2880 32 0) (broadcastInDim S2880 ![] bcast_S_S2880 (id (constantI S_ 32 64#32))))

/-- The outer product of the vector with itself, transposed. -/
def sim (phi : FVec F S1x1x64 .f32) : FVec F S64x64 .f32 :=
  transpose S64x64 [1, 0] (mulf (broadcastInDim S64x64 ![0, 1] bcast_S64x1_S64x64_0_1 (broadcastInDim S64x1 ![0] bcast_S64_S64x1_0 (shapeCast _ phi shapeCasts_S1x1x64_S64))) (broadcastInDim S64x64 ![0, 1] bcast_S1x64_S64x64_0_1 (broadcastInDim S1x64 ![1] bcast_S64_S1x64_1 (shapeCast _ phi shapeCasts_S1x1x64_S64)))) transposes_S64x64_S64x64_1_0

/-- Every column's eight greatest rows, one column after another. -/
def top (phi : FVec F S1x1x64 .f32) : IVec S512 32 :=
  shapeCast _ (Host.topK S64x8 1 (FloatOps.cmpfTotal .gt) (sim phi) sliceFits_S64x64_S64x8).2 shapeCasts_S64x8_S512

/-- Those rows as indices into 64 rows, a negative one counted from the end. -/
def topIdx (phi : FVec F S1x1x64 .f32) : IVec S512x1 32 :=
  broadcastInDim S512x1 ![0] bcast_S512_S512x1_0 (select (cmpi .slt (top phi) (broadcastInDim S512 ![] bcast_S_S512 (constantI S_ 32 0#32))) (addi (top phi) (broadcastInDim S512 ![] bcast_S_S512 (constantI S_ 32 64#32))) (top phi))

/-- Which of a block's 64 rows are selected. -/
def sel (phi : FVec F S1x1x64 .f32) : IVec S64 1 :=
  Host.scatter scatter_S64_S512x1_S512_n_0_0_1 (fun _ b => b) (broadcastInDim S64 ![] bcast_S_S64 (constantI S_ 1 0#1)) (topIdx phi) (broadcastInDim S512 ![] bcast_S_S512 (constantI S_ 1 1#1))

/-- The mask: the two positions lie in one block and the row is a selected one of its block. -/
def mask (phi : FVec F S1x1x64 .f32) : IVec S2880x2880 1 :=
  andi (cmpi .eq (broadcastInDim S2880x2880 ![0, 1] bcast_S2880x1_S2880x2880_0_1 (broadcastInDim S2880x1 ![0] bcast_S2880_S2880x1_0 blockId)) (broadcastInDim S2880x2880 ![0, 1] bcast_S1x2880_S2880x2880_0_1 (broadcastInDim S1x2880 ![1] bcast_S2880_S1x2880_1 blockId))) (broadcastInDim S2880x2880 ![0, 1] bcast_S2880x1_S2880x2880_0_1 (broadcastInDim S2880x1 ![0] bcast_S2880_S2880x1_0 (shapeCast _ (broadcastInDim S45x64 ![0, 1] bcast_S1x64_S45x64_0_1 (shapeCast _ (sel phi) shapeCasts_S64_S1x64)) shapeCasts_S45x64_S2880)))

/-- The position table looked up at every position. -/
def posAt (pos : FVec F S2880x64 .f32) : FVec F S2880x64 .f32 :=
  Host.gather gather_S2880x64_S2880x1_S2880x64_1_0_n_n_0_1_164 pos (broadcastInDim S2880x1 ![0] bcast_S2880_S2880x1_0 (select (cmpi .slt (iotaInDim S2880 32 0) (broadcastInDim S2880 ![] bcast_S_S2880 (constantI S_ 32 0#32))) (addi (iotaInDim S2880 32 0) (broadcastInDim S2880 ![] bcast_S_S2880 (constantI S_ 32 2880#32))) (iotaInDim S2880 32 0)))

/-- The queries, which are also the keys. -/
def q (x : FVec F S4x2880x64 .f32) (phi : FVec F S1x1x64 .f32) (p : FVec F S2880x64 .f32) : FVec F S4x2880x64 .f32 :=
  addf (addf x (broadcastInDim S4x2880x64 ![0, 1, 2] bcast_S1x2880x64_S4x2880x64_0_1_2 (broadcastInDim S1x2880x64 ![1, 2] bcast_S2880x64_S1x2880x64_1_2 p))) (broadcastInDim S4x2880x64 ![0, 1, 2] bcast_S1x1x64_S4x2880x64_0_1_2 phi)

/-- The scores, minus infinity where the mask excludes a pair. -/
def scores (q : FVec F S4x2880x64 .f32) (mask : IVec S2880x2880 1) : FVec F S4x2880x2880 .f32 :=
  select (broadcastInDim S4x2880x2880 ![0, 1, 2] bcast_S1x2880x2880_S4x2880x2880_0_1_2 (broadcastInDim S1x2880x2880 ![1, 2] bcast_S2880x2880_S1x2880x2880_1_2 mask)) (Host.divf (Host.dotGeneral dot_S4x2880x64_S4x2880x64_S4x2880x2880_2_2_1_1_0_0 none q q) (broadcastInDim S4x2880x2880 ![] bcast_S_S4x2880x2880 (constant S_ .f32 0x41000000#32))) (broadcastInDim S4x2880x2880 ![] bcast_S_S4x2880x2880 (id (constant S_ .f32 0xFF800000#32)))

/-- The exponentials of the scores less their row's greatest. -/
def expo (s : FVec F S4x2880x2880 .f32) : FVec F S4x2880x2880 .f32 :=
  Host.exp (subf s (broadcastInDim S4x2880x2880 ![0, 1, 2] bcast_S4x2880x1_S4x2880x2880_0_1_2 (broadcastInDim S4x2880x1 ![0, 1] bcast_S4x2880_S4x2880x1_0_1 (maximumf (broadcastInDim S4x2880 ![] bcast_S_S4x2880 (constant S_ .f32 0xFF800000#32)) (Host.reduce FloatOps.maximumf s (constant S_ .f32 0xFF800000#32) reducesTo_S4x2880x2880_S4x2880_d2 h_S_)))))

/-- The normalized exponentials, times the mask as a number. -/
def probs (e : FVec F S4x2880x2880 .f32) (mask : IVec S2880x2880 1) : FVec F S4x2880x2880 .f32 :=
  mulf (Host.divf e (broadcastInDim S4x2880x2880 ![0, 1, 2] bcast_S4x2880x1_S4x2880x2880_0_1_2 (broadcastInDim S4x2880x1 ![0, 1] bcast_S4x2880_S4x2880x1_0_1 (Host.reduceAdd e (constant S_ .f32 0x00000000#32) reducesTo_S4x2880x2880_S4x2880_d2 h_S_)))) (broadcastInDim S4x2880x2880 ![0, 1, 2] bcast_S1x2880x2880_S4x2880x2880_0_1_2 (uitofp .f32 (broadcastInDim S1x2880x2880 ![1, 2] bcast_S2880x2880_S1x2880x2880_1_2 mask)))

/-- The reference's result from its arguments, by its stages. -/
def out (x : FVec F S4x2880x64 .f32) (phi : FVec F S1x1x64 .f32) (pos : FVec F S2880x64 .f32) : FVec F S4x2880x64 .f32 :=
  Host.dotGeneral dot_S4x2880x2880_S4x2880x64_S4x2880x64_2_1_1_2_0_0 none (probs (expo (scores (q x phi (posAt pos)) (mask phi))) (mask phi)) x

/-- The reference's result is that of its stages. -/
theorem res_eq (m : (ℓ : Loc nD τ sig) → Buf (Elt F) ℓ) (c : Dev nD) :
    Value.res_main_v63 m c = out (m ((c.tc : Thread nD τ).loc main_arg0)) (m ((c.tc : Thread nD τ).loc main_arg1)) (m ((c.tc : Thread nD τ).loc main_arg2)) := by
  unfold Value.res_main_v63 out probs expo scores q posAt mask sel topIdx top sim blockId
  rfl

end Cert.ReferenceIdeal.Parts

end
-- ==== Proof.RefRead.lean ====
module

public import proofs.«01_k».proof.Proof.RefParts
public import Idealize.ShloMosaic.Lib.Pointwise
public import Idealize.ShloMosaic.Lib.Routing.OpsSet

@[expose] public section

set_option maxRecDepth 16384

noncomputable section

namespace Cert.ReferenceIdeal.Read

open Cert.ReferenceIdeal Cert.ReferenceIdeal.Gen Cert.ReferenceIdeal.Parts Idealize.ShloMosaic Idealize.ShloMosaic.TcCoe Idealize.SL.Sem

/-- The mask literal is minus infinity. -/
theorem ofBits_ninf : Ideal.ofBits .f32 4286578688#32 = ⊥ := by
  simp [Ideal.ofBits, Ideal.ieee, -EReal.coe_mul]

/-- The divisor literal is eight. -/
theorem ofBits_eight : Ideal.ofBits .f32 1090519040#32 = ((8 : ℝ) : EReal) := by
  simp [Ideal.ofBits, Ideal.ieee, -EReal.coe_mul]; norm_num

/-- A position's block number is its quotient by 64. -/
theorem blockId_at (i : Fin 2880) : blockId (ix1 i) = BitVec.ofNat 32 (i.val / 64) := by
  pointwise [blockId]
  revert i
  decide +kernel

/-- The table looked up at a position is the table there. -/
theorem posAt_at (pos : FVec Ideal S2880x64 .f32) (i : Fin 2880) (d : Fin 64) : posAt pos (ix2 i d) = pos (ix2 i d) := by
  unfold posAt
  rw [ix2_eq_valueIdx]
  refine Routing.gather_row _ rfl rfl rfl rfl rfl pos _ i d i ?_ (by decide)
  rw [← ix2_eq_valueIdx]
  pointwise
  refine Routing.wrap_of_lt _ _ ?_
  rw [BitVec.toNat_ofNat]
  omega

/-- A query is the input, its position's table entry and the vector added. -/
theorem q_at (x : FVec Ideal S4x2880x64 .f32) (phi : FVec Ideal S1x1x64 .f32) (p : FVec Ideal S2880x64 .f32) (b : Fin 4) (i : Fin 2880) (d : Fin 64) :
    q x phi p (ix3 b i d) = x (ix3 b i d) + p (ix2 i d) + phi (ix3 0 0 d) := by
  pointwise [q]

/-- The mask admits a pair when both lie in one block and the row is selected. -/
theorem mask_at (phi : FVec Ideal S1x1x64 .f32) (i j : Fin 2880) :
    mask phi (ix2 i j) = IntOp.andi (BitVec.ofBool (decide (j.val / 64 = i.val / 64))) (sel phi (ix1 ⟨i.val % 64, Nat.mod_lt _ (by decide)⟩)) := by
  have e : IntOp.cmpi .eq (BitVec.ofNat 32 (i.val / 64)) (BitVec.ofNat 32 (j.val / 64)) = BitVec.ofBool (decide (j.val / 64 = i.val / 64)) := by
    show BitVec.ofBool (BitVec.ofNat 32 (i.val / 64) == BitVec.ofNat 32 (j.val / 64)) = _
    congr 1
    rw [Bool.eq_iff_iff, beq_iff_eq, decide_eq_true_iff, ← BitVec.toNat_inj, BitVec.toNat_ofNat, BitVec.toNat_ofNat,
      Nat.mod_eq_of_lt (by omega), Nat.mod_eq_of_lt (by omega)]
    exact eq_comm
  pointwise [mask]
  rw [blockId_at, blockId_at, e]

/-- A score is an eighth of the product of the two queries, or minus infinity where the mask excludes the pair. -/
theorem scores_at (q : FVec Ideal S4x2880x64 .f32) (mask : IVec S2880x2880 1) (b : Fin 4) (i j : Fin 2880) :
    scores q mask (ix3 b i j) = Scalar.select (mask (ix2 i j)) (Ideal.div (∑ e : Fin 64, q (ix3 b i e) * q (ix3 b j e)) ((8 : ℝ) : EReal)) ⊥ := by
  pointwise [scores]
  rw [ofBits_eight, ← ofBits_ninf]
  rfl

/-- The greatest along the last of three axes, at any extents. -/
theorem reduce_max_at {A B C : Nat} (s : FVec Ideal ⟨3, ![A, B, C]⟩ .f32) (init : FVec Ideal S_ .f32)
    (h : Shape.ReducesTo ⟨3, ![A, B, C]⟩ [2] ⟨2, ![A, B]⟩) (hu : 0 < S_.numel) (b : Fin A) (i : Fin B) :
    Host.reduce FloatOps.maximumf s init h hu (ix2 b i) = Finset.univ.fold max (init (Shape.Idx.first hu)) fun k => s (ix3 b i k) := by
  rw [Host.reduce_eq_fold, h.fold_fiber_r3_a2]
  rfl

/-- The exponentials of the scores less a number for each row, which minus infinity bounds below. -/
def expoOf (s : FVec Ideal S4x2880x2880 .f32) (g : FVec Ideal S4x2880 .f32) : FVec Ideal S4x2880x2880 .f32 :=
  Host.exp (subf s (broadcastInDim S4x2880x2880 ![0, 1, 2] bcast_S4x2880x1_S4x2880x2880_0_1_2 (broadcastInDim S4x2880x1 ![0, 1] bcast_S4x2880_S4x2880x1_0_1 (maximumf (broadcastInDim S4x2880 ![] bcast_S_S4x2880 (constant S_ .f32 0xFF800000#32)) g))))

/-- One of those exponentials. -/
theorem expoOf_at (s : FVec Ideal S4x2880x2880 .f32) (g : FVec Ideal S4x2880 .f32) (b : Fin 4) (i j : Fin 2880) :
    expoOf s g (ix3 b i j) = Ideal.exp (s (ix3 b i j) - g (ix2 b i)) := by
  pointwise [expoOf]
  rw [ofBits_ninf, max_eq_right bot_le]

/-- An exponential of a score less the greatest of its row. -/
theorem expo_at (s : FVec Ideal S4x2880x2880 .f32) (b : Fin 4) (i j : Fin 2880) :
    expo s (ix3 b i j) = Ideal.exp (s (ix3 b i j) - Finset.univ.fold max ⊥ fun k => s (ix3 b i k)) := by
  refine (expoOf_at s _ b i j).trans ?_
  rw [reduce_max_at (A := 4) (B := 2880) (C := 2880), ← ofBits_ninf]
  rfl

/-- A bit is zero or one. -/
theorem bit_cases : ∀ w : BitVec 1, w = 0#1 ∨ w = 1#1 := by decide

/-- The conjunction of a decided proposition with a bit. -/
theorem and_bit (p s : Prop) [Decidable p] [Decidable s] (w : BitVec 1) (hw : w = 1#1 ↔ s) :
    IntOp.andi (BitVec.ofBool (decide p)) w = BitVec.ofBool (decide (p ∧ s)) := by
  by_cases hs : s
  · rw [hw.2 hs]
    by_cases hp : p <;> simp only [hp, hs] <;> rfl
  · have h0 : w = 0#1 := (bit_cases w).resolve_right fun h => hs (hw.1 h)
    rw [h0]
    by_cases hp : p <;> simp only [hp, hs] <;> rfl

/-- A decided proposition as a number. -/
theorem uitofp_bit (p : Prop) [Decidable p] : (FloatOps.uitofp .f32 (BitVec.ofBool (decide p)) : Ideal .f32) = if p then (1 : EReal) else 0 := by
  show (((BitVec.ofBool (decide p)).toNat : ℝ) : EReal) = _
  by_cases h : p <;> simp [h]

/-- A choice by a decided proposition. -/
theorem select_bit (p : Prop) [Decidable p] (a b : EReal) : Scalar.select (BitVec.ofBool (decide p)) a b = if p then a else b := by
  by_cases h : p <;> simp only [h, if_true, if_false] <;> rfl

/-- A normalized exponential times its mask. -/
theorem probs_at (e : FVec Ideal S4x2880x2880 .f32) (mask : IVec S2880x2880 1) (b : Fin 4) (i j : Fin 2880) :
    probs e mask (ix3 b i j) = Ideal.div (e (ix3 b i j)) (∑ k : Fin 2880, e (ix3 b i k)) * (FloatOps.uitofp .f32 (mask (ix2 i j)) : Ideal .f32) := by
  pointwise [probs]

/-- A result is the row of weights against a column of the input. -/
theorem out_at (x : FVec Ideal S4x2880x64 .f32) (phi : FVec Ideal S1x1x64 .f32) (pos : FVec Ideal S2880x64 .f32) (b : Fin 4) (i : Fin 2880) (d : Fin 64) :
    out x phi pos (ix3 b i d)
      = ∑ j : Fin 2880, probs (expo (scores (q x phi (posAt pos)) (mask phi))) (mask phi) (ix3 b i j) * x (ix3 b j d) := by
  pointwise [out]

end Cert.ReferenceIdeal.Read

end
-- ==== Proof.RefSel.lean ====
module

public import proofs.«01_k».proof.Proof.RefParts
public import proofs.«01_k».proof.Proof.Select
public import Idealize.ShloMosaic.Lib.Pointwise
public import Idealize.ShloMosaic.Lib.Routing.OpsSet

@[expose] public section

set_option maxRecDepth 16384

noncomputable section

namespace Cert.ReferenceIdeal.Sel

open Cert.ReferenceIdeal Cert.ReferenceIdeal.Gen Cert.ReferenceIdeal.Parts Idealize.ShloMosaic Idealize.ShloMosaic.TcCoe Idealize.SL.Sem

/-- The transposed outer product at row `j`, column `k`. -/
theorem sim_at (phi : FVec Ideal S1x1x64 .f32) (j k : Fin 64) : sim phi (ix2 j k) = phi (ix3 0 0 k) * phi (ix3 0 0 j) := by
  pointwise [sim]

/-- Row `j`'s place `p` of the greatest eight holds the position that a stable sort of that row by decreasing value puts at `p`. -/
theorem topK_at (x : FVec Ideal S64x64 .f32) (h : S64x64.Slices (fun _ => 0) S64x8) (j : Fin 64) (p : Fin 8) :
    (Host.topK S64x8 1 (FloatOps.cmpfTotal .gt) x h).2 (ix2 j p)
      = BitVec.ofNat 32 (sortedFrom (fun k k' : Fin 64 => decide (x (ix2 j k') < x (ix2 j k))) ⟨p.val, by omega⟩).val := by
  unfold Host.topK
  dsimp only
  pointwise
  unfold Host.sort2
  rw [dif_pos (by decide)]
  show BitVec.ofNat 32 ((Shape.Idx.along (s := S64x64) (ix2 j ⟨p.val, by omega⟩) (1 : Fin 2) (sortedFrom _ _)) 1).val = _
  have hal : ∀ k : Fin 64, Shape.Idx.along (s := S64x64) (ix2 j ⟨p.val, by omega⟩) (1 : Fin 2) k = ix2 j k := by
    intro k
    funext a
    match a with
    | ⟨0, _⟩ => rfl
    | ⟨1, _⟩ => rfl
  have hc : (fun k k' : Fin 64 => FloatOps.cmpfTotal CmpDirection.gt (x (Shape.Idx.along (s := S64x64) (ix2 j ⟨p.val, by omega⟩) (1 : Fin 2) k))
      (x (Shape.Idx.along (s := S64x64) (ix2 j ⟨p.val, by omega⟩) (1 : Fin 2) k')) == 1#1) = fun k k' => decide (x (ix2 j k') < x (ix2 j k)) := by
    funext k k'
    rw [hal, hal]
    show (BitVec.ofBool (decide (x (ix2 j k') < x (ix2 j k))) == 1#1) = _
    by_cases h : x (ix2 j k') < x (ix2 j k) <;> simp [h]
  refine congrArg (fun k : Fin 64 => BitVec.ofNat 32 k.val) (a₂ := sortedFrom (fun k k' : Fin 64 => decide (x (ix2 j k') < x (ix2 j k))) ⟨p.val, by omega⟩) ?_
  rw [← hc]
  refine (congrFun (hal _) 1).trans ?_
  show sortedFrom _ _ = sortedFrom _ _
  rfl

/-- Entry `n` of the list is place `n % 8` of row `n / 8`. -/
theorem top_at (phi : FVec Ideal S1x1x64 .f32) (n : Fin 512) :
    top phi (ix1 n) = BitVec.ofNat 32 (sortedFrom (fun k k' : Fin 64 => decide (sim phi (ix2 ⟨n.val / 8, by omega⟩ k') < sim phi (ix2 ⟨n.val / 8, by omega⟩ k))) ⟨n.val % 8, by omega⟩).val := by
  unfold top
  pointwise
  rw [topK_at]

/-- A small word is not wrapped. -/
theorem topIdx_at (phi : FVec Ideal S1x1x64 .f32) (n : Fin 512) (z : Fin 1) : topIdx phi (ix2 n z) = top phi (ix1 n) := by
  unfold topIdx
  pointwise
  refine Routing.wrap_of_lt _ _ ?_
  rw [top_at, BitVec.toNat_ofNat]
  omega

/-- An update lands on the entry its index word names. -/
theorem lands (idx : IVec S512x1 32) (n : Fin 512) (x : Fin 64) :
    scatter_S64_S512x1_S512_n_0_0_1.resultIdx? (ix1 n) idx = some (ix1 x) ↔ (idx (ix2 n (0 : Fin 1))).toInt = (x.val : Int) := by
  have hs : scatter_S64_S512x1_S512_n_0_0_1.start (ix1 n) idx (0 : Fin 1) = (idx (ix2 n (0 : Fin 1))).toInt := by
    unfold ScatterDims.start
    rw [dif_pos (by decide)]
    refine congrArg (fun k => (idx k).toInt) ?_
    funext b
    match b with
    | ⟨0, _⟩ => rfl
    | ⟨1, _⟩ => rfl
  have hw : scatter_S64_S512x1_S512_n_0_0_1.window (ix1 n) (0 : Fin 1) = 0 := rfl
  refine (Routing.resultIdx?_ix1 (N := 64) scatter_S64_S512x1_S512_n_0_0_1 (ix1 n) idx x).trans ?_
  rw [hs, hw]
  simp

/-- A row is selected when it is among the eight greatest of some row of products. -/
theorem sel_at (phi : FVec Ideal S1x1x64 .f32) (i : Fin 64) :
    sel phi (ix1 i) = 1#1 ↔ Select.Chosen (fun k => phi (ix3 0 0 k)) i := by
  have ht : ∀ n : Fin 512, (topIdx phi (ix2 n (0 : Fin 1))).toInt = (i.val : Int) ↔
      sortedFrom (fun k k' : Fin 64 => decide (sim phi (ix2 ⟨n.val / 8, by omega⟩ k') < sim phi (ix2 ⟨n.val / 8, by omega⟩ k))) ⟨n.val % 8, by omega⟩ = i := by
    intro n
    rw [topIdx_at, top_at, StableHlo.Predicate.toInt_ofNat_small _ (by omega), Fin.ext_iff]
    norm_cast
  have hr : Select.Chosen (fun k => phi (ix3 0 0 k)) i ↔
      ∃ n : Fin 512, scatter_S64_S512x1_S512_n_0_0_1.resultIdx? (ix1 n) (topIdx phi) = some (ix1 i) := by
    simp only [lands, ht, Select.Chosen]
    constructor
    · rintro ⟨j, h⟩
      obtain ⟨p, hp, e⟩ := (Select.mem_first_iff _ i 8).2 h
      refine ⟨⟨j.val * 8 + p.val, by omega⟩, ?_⟩
      have ej : (⟨(j.val * 8 + p.val) / 8, by omega⟩ : Fin 64) = j := Fin.ext (by show (j.val * 8 + p.val) / 8 = j.val; omega)
      have ep : (⟨(j.val * 8 + p.val) % 8, by omega⟩ : Fin 64) = p := Fin.ext (by show (j.val * 8 + p.val) % 8 = p.val; omega)
      simp only [ej, ep, sim_at]
      exact e
    · rintro ⟨n, h⟩
      refine ⟨⟨n.val / 8, by omega⟩, (Select.mem_first_iff _ i 8).1 ⟨⟨n.val % 8, by omega⟩, Nat.mod_lt _ (by decide), ?_⟩⟩
      simpa only [sim_at] using h
  rw [hr]
  unfold sel
  constructor
  · intro h
    by_contra hn
    rw [Routing.scatter_set_miss] at h
    · revert h
      pointwise
      decide
    · intro k hk
      exact hn ⟨k 0, by rw [← hk]; exact congrArg (fun k => ScatterDims.resultIdx? _ k _) (by funext a; match a with | ⟨0, _⟩ => rfl)⟩
  · rintro ⟨n, hn⟩
    exact Routing.scatter_set_hit _ _ _ _ _ _ (fun _ _ => rfl) (ix1 n) hn

end Cert.ReferenceIdeal.Sel

end
-- ==== Proof.Attn.lean ====
module

public import Idealize.ShloMosaic.PureOps.Ideal
public import Mathlib.Data.EReal.Inv

@[expose] public section

noncomputable section

namespace Cert.Attn

open Idealize.ShloMosaic

/-- Position `k` of block `t`. -/
def at64 (t : Fin 45) (k : Fin 64) : Fin 2880 := ⟨t.val * 64 + k.val, by omega⟩

/-- A sum over all positions whose terms vanish outside block `t` is the sum over that block. -/
theorem sum_block (t : Fin 45) (f : Fin 2880 → EReal) (h : ∀ j, j.val / 64 ≠ t.val → f j = 0) :
    ∑ j, f j = ∑ k, f (at64 t k) := by
  symm
  refine Finset.sum_of_injOn (at64 t) ?_ ?_ ?_ ?_
  · intro a _ b _ e
    have e := congrArg Fin.val e
    simp only [at64] at e
    exact Fin.ext (by omega)
  · intro a _; exact Finset.mem_coe.2 (Finset.mem_univ _)
  · intro j _ hj
    refine h j fun e => hj ⟨⟨j.val % 64, Nat.mod_lt _ (by decide)⟩, Finset.mem_coe.2 (Finset.mem_univ _), Fin.ext ?_⟩
    simp only [at64]; omega
  · intro k _; rfl

/-- The greatest of all positions' values, those outside block `t` being minus infinity, is the greatest over that block. -/
theorem max_block (t : Fin 45) (f : Fin 2880 → EReal) (h : ∀ j, j.val / 64 ≠ t.val → f j = ⊥) :
    Finset.univ.fold max ⊥ f = Finset.univ.fold max ⊥ fun k => f (at64 t k) := by
  apply le_antisymm
  · rw [Finset.fold_max_le]
    refine ⟨bot_le, fun j _ => ?_⟩
    by_cases e : j.val / 64 = t.val
    · have hj : at64 t ⟨j.val % 64, Nat.mod_lt _ (by decide)⟩ = j := Fin.ext (by simp only [at64]; omega)
      rw [Finset.le_fold_max]
      exact Or.inr ⟨⟨j.val % 64, Nat.mod_lt _ (by decide)⟩, Finset.mem_univ _, (congrArg f hj).ge⟩
    · rw [h j e]; exact bot_le
  · rw [Finset.fold_max_le]
    refine ⟨bot_le, fun k _ => ?_⟩
    rw [Finset.le_fold_max]
    exact Or.inr ⟨_, Finset.mem_univ _, le_rfl⟩

/-- Minus infinity less anything has exponential zero. -/
theorem exp_bot_sub (m : EReal) : Ideal.exp (⊥ - m) = 0 := by
  rw [sub_eq_add_neg, EReal.bot_add]; rfl

/-- Zero over anything, times zero. -/
theorem term_zero (a x : EReal) : a * 0 * x = 0 := by rw [mul_zero, zero_mul]

/-- Row by row the two programs compute one thing. Attention over all positions under a mask that admits block `t` of a
    selected row and nothing of another, the excluded scores being minus infinity and the excluded weights zeroed, is
    attention within block `t`, its weights zeroed when the row is not selected. -/
theorem attn_eq (t : Fin 45) (sel : Prop) [Decidable sel] (s X : Fin 2880 → EReal) (M : Fin 2880 → EReal)
    (hM : ∀ j, M j = if j.val / 64 = t.val ∧ sel then s j else ⊥) :
    ∑ j, Ideal.div (Ideal.exp (M j - Finset.univ.fold max ⊥ M)) (∑ j', Ideal.exp (M j' - Finset.univ.fold max ⊥ M))
        * (if j.val / 64 = t.val ∧ sel then 1 else 0) * X j
      = ∑ k, Ideal.div (Ideal.exp (s (at64 t k) - Finset.univ.fold max ⊥ fun k => s (at64 t k)))
          (∑ k', Ideal.exp (s (at64 t k') - Finset.univ.fold max ⊥ fun k => s (at64 t k)))
        * (if sel then 1 else 0) * X (at64 t k) := by
  have hb : ∀ k, (at64 t k).val / 64 = t.val := fun k => by simp only [at64]; omega
  by_cases hs : sel
  · have hin : ∀ k, M (at64 t k) = s (at64 t k) := fun k => by rw [hM, if_pos ⟨hb k, hs⟩]
    have hout : ∀ j : Fin 2880, j.val / 64 ≠ t.val → M j = ⊥ := fun j e => by rw [hM, if_neg fun h => e h.1]
    rw [max_block t M hout, sum_block t (fun j' => Ideal.exp (M j' - _)) fun j e => by rw [hout j e, exp_bot_sub],
      sum_block t _ fun j e => by rw [if_neg fun h => e h.1, term_zero]]
    simp only [hin, hb, hs, and_self, if_true]
  · simp only [hs, and_false, if_false, term_zero, Finset.sum_const_zero]

/-- A quotient by eight is a product with an eighth. -/
theorem div_eight (x : EReal) : Ideal.div x ((8 : ℝ) : EReal) = x * ((1 / 8 : ℝ) : EReal) := by
  unfold Ideal.div
  rw [if_neg (by norm_cast), one_div, EReal.coe_inv]

end Cert.Attn

end
-- ==== Proof.RefOut.lean ====
module

public import proofs.«01_k».proof.Proof.RefRead
public import proofs.«01_k».proof.Proof.RefSel
public import proofs.«01_k».proof.Proof.Attn

@[expose] public section

set_option maxRecDepth 16384

noncomputable section

namespace Cert.ReferenceIdeal.Out

open Cert.ReferenceIdeal Cert.ReferenceIdeal.Gen Cert.ReferenceIdeal.Parts Cert.ReferenceIdeal.Read Idealize.ShloMosaic Idealize.ShloMosaic.TcCoe Idealize.SL.Sem
open Cert.Attn (at64)

open Classical in
/-- A result of the reference at row `r` of block `t`: attention within the block, its weights zeroed when the row is not chosen. -/
theorem out_block (x : FVec Ideal S4x2880x64 .f32) (phi : FVec Ideal S1x1x64 .f32) (pos : FVec Ideal S2880x64 .f32) (b : Fin 4) (t : Fin 45) (r d : Fin 64)
    (s : Fin 2880 → EReal)
    (hs : ∀ j, s j = (∑ e : Fin 64, (x (ix3 b (at64 t r) e) + pos (ix2 (at64 t r) e) + phi (ix3 0 0 e)) * (x (ix3 b j e) + pos (ix2 j e) + phi (ix3 0 0 e))) * ((1 / 8 : ℝ) : EReal)) :
    out x phi pos (ix3 b (at64 t r) d)
      = ∑ k : Fin 64, Ideal.div (Ideal.exp (s (at64 t k) - Finset.univ.fold max ⊥ fun k => s (at64 t k)))
          (∑ k' : Fin 64, Ideal.exp (s (at64 t k') - Finset.univ.fold max ⊥ fun k => s (at64 t k)))
        * (if Select.Chosen (fun k => phi (ix3 0 0 k)) r then 1 else 0) * x (ix3 b (at64 t k) d) := by
  have hd : (at64 t r).val / 64 = t.val := by simp only [Attn.at64]; omega
  have hr : (⟨(at64 t r).val % 64, Nat.mod_lt _ (by decide)⟩ : Fin 64) = r := Fin.ext (by simp only [Attn.at64]; omega)
  have hm : ∀ j, mask phi (ix2 (at64 t r) j) = BitVec.ofBool (decide (j.val / 64 = t.val ∧ Select.Chosen (fun k => phi (ix3 0 0 k)) r)) := fun j => by
    rw [mask_at, hr]
    simp only [hd]
    exact and_bit _ _ _ (Sel.sel_at phi r)
  rw [out_at]
  simp only [probs_at, expo_at, hm, uitofp_bit]
  refine Attn.attn_eq t _ s (fun j => x (ix3 b j d)) _ fun j => ?_
  rw [scores_at, hm, select_bit, Attn.div_eight, hs]
  simp only [q_at, posAt_at]

end Cert.ReferenceIdeal.Out

end
-- ==== Proof.KTile.lean ====
module

public import proofs.«01_k».proof.Proof.KSel
public import proofs.«01_k».proof.Proof.RefOut

@[expose] public section

set_option maxRecDepth 16384

noncomputable section

namespace Cert.KernelIdeal.Tile

open Cert.KernelIdeal Cert.KernelIdeal.Gen Idealize.ShloMosaic Idealize.ShloMosaic.TcCoe Idealize.SL.Sem
open Cert.Attn (at64)

/-- One tile of the kernel, read at an entry: attention within the tile, scaled by an eighth and by the selection column. -/
theorem tile_at (p : FVec Ideal S1x64 .f32) (s : FVec Ideal S64x1 .f32) (P : Vec Ideal S64x64 .f32) (X : Vec Ideal S1x64x64 .f32) (z : Fin 1) (i d : Fin 64)
    (S : Fin 64 → EReal)
    (hS : ∀ k, S k = (∑ e : Fin 64, (X (ix3 0 i e) + P (ix2 i e) + p (ix2 0 e)) * (X (ix3 0 k e) + P (ix2 k e) + p (ix2 0 e))) * ((1 / 8 : ℝ) : EReal)) :
    k0_pay15 p s P X (ix3 z i d)
      = ∑ k : Fin 64, Ideal.div (Ideal.exp (S k - Finset.univ.fold max ⊥ S)) (∑ k' : Fin 64, Ideal.exp (S k' - Finset.univ.fold max ⊥ S))
          * s (ix2 i 0) * X (ix3 0 k d) := by
  have e : S = fun k => (∑ e : Fin 64, (X (ix3 0 i e) + P (ix2 i e) + p (ix2 0 e)) * (X (ix3 0 k e) + P (ix2 k e) + p (ix2 0 e))) * Ideal.ofBits .f32 1040187392#32 :=
    funext fun k => by rw [hS, Sel.ofBits_eighth]
  rw [e, ← Sel.ofBits_ninf]
  pointwise [k0_pay15]

/-- The vector as a row. -/
theorem row_at (v0 : Vec Ideal S1x1x64 .f32) (z : Fin 1) (e : Fin 64) : k0_pay2 v0 (ix2 z e) = v0 (ix3 0 0 e) := by
  pointwise [k0_pay2]

/-- A tile's entry is the reference's result there: the tile of batch `b`, its rows and positions those of block `t`. -/
theorem tile_eq (A0 : FVec Ideal ReferenceIdeal.S4x2880x64 .f32) (A1 : FVec Ideal ReferenceIdeal.S1x1x64 .f32) (A2 : FVec Ideal ReferenceIdeal.S2880x64 .f32)
    (hA : ∀ k : Fin 64, A1 (ix3 0 0 k) ≠ ⊥ ∧ A1 (ix3 0 0 k) ≠ ⊤) (t : Fin 45) (b : Fin 4)
    (v0 : Vec Ideal S1x1x64 .f32) (P : Vec Ideal S64x64 .f32) (X : Vec Ideal S1x64x64 .f32)
    (hv : ∀ k : Fin 64, v0 (ix3 0 0 k) = A1 (ix3 0 0 k)) (hP : ∀ r d : Fin 64, P (ix2 r d) = A2 (ix2 (at64 t r) d))
    (hX : ∀ r d : Fin 64, X (ix3 0 r d) = A0 (ix3 b (at64 t r) d))
    (z : Fin 1) (r d : Fin 64) :
    k0_pay15 (k0_pay2 v0) (Sel.selCol v0) P X (ix3 z r d) = ReferenceIdeal.Parts.out A0 A1 A2 (ix3 b (at64 t r) d) := by
  classical
  have e : (fun k => v0 (ix3 0 0 k)) = fun k => A1 (ix3 0 0 k) := funext hv
  rw [tile_at _ _ _ _ _ _ _ _ fun _ => rfl, ReferenceIdeal.Out.out_block _ _ _ _ _ _ _ _ fun _ => rfl,
    Sel.selCol_at v0 (fun k => by rw [hv]; exact hA k), e]
  simp only [row_at, hX, hP, hv]

/-- The same with the entry and the result's index given by their coordinates. -/
theorem tile_eq_idx (A0 : FVec Ideal ReferenceIdeal.S4x2880x64 .f32) (A1 : FVec Ideal ReferenceIdeal.S1x1x64 .f32) (A2 : FVec Ideal ReferenceIdeal.S2880x64 .f32)
    (hA : ∀ k : Fin 64, A1 (ix3 0 0 k) ≠ ⊥ ∧ A1 (ix3 0 0 k) ≠ ⊤) (t : Fin 45) (b : Fin 4)
    (v0 : Vec Ideal S1x1x64 .f32) (P : Vec Ideal S64x64 .f32) (X : Vec Ideal S1x64x64 .f32) (x : S1x64x64.Idx) (j : ReferenceIdeal.S4x2880x64.Idx)
    (hj0 : (j 0 : ℕ) = b) (hj1 : (j 1 : ℕ) = t.val * 64 + x 1) (hj2 : (j 2 : ℕ) = x 2)
    (hv : ∀ k : Fin 64, v0 (ix3 0 0 k) = A1 (ix3 0 0 k)) (hP : ∀ r d : Fin 64, P (ix2 r d) = A2 (ix2 (at64 t r) d))
    (hX : ∀ r d : Fin 64, X (ix3 0 r d) = A0 (ix3 b (at64 t r) d)) :
    k0_pay15 (k0_pay2 v0) (Sel.selCol v0) P X x = ReferenceIdeal.Parts.out A0 A1 A2 j := by
  have ex : x = ix3 (n0 := 1) (n1 := 64) (n2 := 64) (x 0) (x 1) (x 2) := by
    funext a
    match a with
    | ⟨0, _⟩ => rfl
    | ⟨1, _⟩ => rfl
    | ⟨2, _⟩ => rfl
  have ej : j = ix3 b (at64 t (x 1)) (x 2) := by
    funext a
    match a with
    | ⟨0, _⟩ => exact Fin.ext hj0
    | ⟨1, _⟩ => exact Fin.ext hj1
    | ⟨2, _⟩ => exact Fin.ext hj2
  rw [ej]
  exact (congrArg (k0_pay15 (k0_pay2 v0) (Sel.selCol v0) P X) ex).trans (tile_eq A0 A1 A2 hA t b v0 P X hv hP hX _ _ _)

end Cert.KernelIdeal.Tile

end
-- ==== Proof.KValue.lean ====
module

public import proofs.«01_k».proof.Proof.KTile

@[expose] public section

set_option maxRecDepth 16384

noncomputable section

namespace Cert.KernelIdeal.Final

open Cert.KernelIdeal Cert.KernelIdeal.Gen Idealize.ShloMosaic Idealize.ShloMosaic.TcCoe Idealize.SL.Sem
open Cert.Attn (at64)

variable (m : (ℓ : Loc nD τ sig) → Buf (Elt Ideal) ℓ)

/-- Which block each window is on at a point. -/
theorem idx : ∀ t : Fin cfg0.N, win0_0.index t = ![0, t.val, 0] ∧ win0_1.index t = ![0, 0, 0] ∧ win0_2.index t = ![t.val, 0] ∧ win0_3.index t = ![0, t.val, 0] :=
  (by decide +kernel : ∀ t : Fin grid0.N, _)

/-- The grid has a point for each of the 45 blocks. -/
theorem lt45 (t : Fin cfg0.N) : t.val < 45 := lt_of_lt_of_eq t.isLt (by decide +kernel)

/-- The input array. -/
abbrev argX (c : Dev nD) : FVec Ideal ReferenceIdeal.S4x2880x64 .f32 := m ((c : Thread nD τ).loc main_arg0)

/-- The vector. -/
abbrev argPhi (c : Dev nD) : FVec Ideal ReferenceIdeal.S1x1x64 .f32 := m ((c : Thread nD τ).loc main_arg1)

/-- The position table. -/
abbrev argPos (c : Dev nD) : FVec Ideal ReferenceIdeal.S2880x64 .f32 := m ((c : Thread nD τ).loc main_arg2)

/-- The input's block at a point. -/
theorem x_blk (c : Dev nD) (t : Fin cfg0.N) (b : Fin 4) (r d : Fin 64) : iblk m c 0 t (ix3 b r d) = argX m c (ix3 b (at64 ⟨t.val, lt45 t⟩ r) d) := by
  blk_ext [iblk, V, idx t]
  rfl

/-- The vector's block at a point is the vector. -/
theorem phi_blk (c : Dev nD) (t : Fin cfg0.N) (k : Fin 64) : iblk m c 1 t (ix3 0 0 k) = argPhi m c (ix3 0 0 k) := by
  blk_ext [iblk, V, idx t]

/-- The position table's block at a point. -/
theorem pos_blk (c : Dev nD) (t : Fin cfg0.N) (r d : Fin 64) : iblk m c 2 t (ix2 r d) = argPos m c (ix2 (at64 ⟨t.val, lt45 t⟩ r) d) := by
  blk_ext [iblk, V, idx t]
  rfl

/-- What a point computes is the reference's result on its block. -/
theorem point (c : Dev nD) (hA : ∀ k : Fin 64, argPhi m c (ix3 0 0 k) ≠ ⊥ ∧ argPhi m c (ix3 0 0 k) ≠ ⊤)
    (t : Fin cfg0.N) (y : S4x64x64.Idx) (j : ReferenceIdeal.S4x2880x64.Idx) (hj0 : (j 0 : ℕ) = y 0) (hj1 : (j 1 : ℕ) = t.val * 64 + y 1) (hj2 : (j 2 : ℕ) = y 2) :
    out0_3 (F := Ideal) (iblk m c 0 t) (iblk m c 1 t) (iblk m c 2 t) y = ReferenceIdeal.Parts.out (F := Ideal) (argX m c) (argPhi m c) (argPos m c) j := by
  unfold out0_3
  canon_tiles x h
  case piece0 =>
    refine Tile.tile_eq_idx (argX m c) (argPhi m c) (argPos m c) hA ⟨t.val, lt45 t⟩ 3 (View.ld (iblk m c 1 t) r0_0) (View.ld (iblk m c 2 t) r0_1) (View.ld (iblk m c 0 t) r0_5) x j
      (hj0.trans (by omega : (y 0 : ℕ) = 3)) (hj1.trans (congrArg (t.val * 64 + ·) h1)) (hj2.trans h2) (fun k => ?_) (fun r d => ?_) (fun r d => ?_)
    · pointwise
      exact phi_blk m c t k
    · pointwise
      exact pos_blk m c t r d
    · pointwise
      exact x_blk m c t 3 r d
  case piece1 =>
    refine Tile.tile_eq_idx (argX m c) (argPhi m c) (argPos m c) hA ⟨t.val, lt45 t⟩ 2 (View.ld (iblk m c 1 t) r0_0) (View.ld (iblk m c 2 t) r0_1) (View.ld (iblk m c 0 t) r0_4) x j
      (hj0.trans (by omega : (y 0 : ℕ) = 2)) (hj1.trans (congrArg (t.val * 64 + ·) h1)) (hj2.trans h2) (fun k => ?_) (fun r d => ?_) (fun r d => ?_)
    · pointwise
      exact phi_blk m c t k
    · pointwise
      exact pos_blk m c t r d
    · pointwise
      exact x_blk m c t 2 r d
  case piece2 =>
    refine Tile.tile_eq_idx (argX m c) (argPhi m c) (argPos m c) hA ⟨t.val, lt45 t⟩ 1 (View.ld (iblk m c 1 t) r0_0) (View.ld (iblk m c 2 t) r0_1) (View.ld (iblk m c 0 t) r0_3) x j
      (hj0.trans (by omega : (y 0 : ℕ) = 1)) (hj1.trans (congrArg (t.val * 64 + ·) h1)) (hj2.trans h2) (fun k => ?_) (fun r d => ?_) (fun r d => ?_)
    · pointwise
      exact phi_blk m c t k
    · pointwise
      exact pos_blk m c t r d
    · pointwise
      exact x_blk m c t 1 r d
  case piece3 =>
    refine Tile.tile_eq_idx (argX m c) (argPhi m c) (argPos m c) hA ⟨t.val, lt45 t⟩ 0 (View.ld (iblk m c 1 t) r0_0) (View.ld (iblk m c 2 t) r0_1) (View.ld (iblk m c 0 t) r0_2) x j
      (hj0.trans (by omega : (y 0 : ℕ) = 0)) (hj1.trans (congrArg (t.val * 64 + ·) h1)) (hj2.trans h2) (fun k => ?_) (fun r d => ?_) (fun r d => ?_)
    · pointwise
      exact phi_blk m c t k
    · pointwise
      exact pos_blk m c t r d
    · pointwise
      exact x_blk m c t 0 r d

/-- The kernel's result array is the reference's. -/
theorem final (c : Dev nD) (hA : ∀ k : Fin 64, argPhi m c (ix3 0 0 k) ≠ ⊥ ∧ argPhi m c (ix3 0 0 k) ≠ ⊤) :
    (dats m 0 c).arrAt 3 cfg0.N = ReferenceIdeal.Parts.out (F := Ideal) (argX m c) (argPhi m c) (argPos m c) := by
  refine (dats m 0 c).arrAt_eq_of_covers 3 _ (by decide +kernel) fun t hf y => ?_
  blk_simp
  rw [after0_3]
  refine point m c hA t y _ ?_ ?_ ?_
  all_goals (blk_simp [idx t] <;> try omega)

end Cert.KernelIdeal.Final

end
-- ==== Proof.Finite.lean ====
module

public import proofs.«01_k».proof.Pre_phi_finite
public import Idealize.ShloMosaic.Lib.Pointwise
public import Idealize.ShloMosaic.Lib.ReduceAll

@[expose] public section

noncomputable section

namespace Cert.Finite

open Cert.Pre_phi_finite Idealize.ShloMosaic Idealize.ShloMosaic.TcCoe

/-- What the predicate's operations ask of their shapes. -/
theorem facts : Cert.Pre_phi_finite.Facts where
  bcast_S_S1x1x64 := by decide
  reducesTo_S1x1x64_S_d0_1_2 := by decide
  h_S_ := by decide

/-- The predicate's bound is plus infinity. -/
theorem ofBits_inf : Ideal.ofBits .f32 2139095040#32 = ⊤ := by
  simp [Ideal.ofBits, Ideal.ieee, -EReal.coe_mul]

/-- Where the predicate holds every entry of the vector is finite. -/
theorem entries [Cert.Pre_phi_finite.Facts] (a0 : FVec Ideal S4x2880x64 .f32) (a1 : FVec Ideal S1x1x64 .f32) (a2 : FVec Ideal S2880x64 .f32)
    (h : Cert.Pre_phi_finite.fn (F := Ideal) a0 a1 a2 = fun _ => 1#1) (k : Fin 64) : a1 (ix3 0 0 k) ≠ ⊥ ∧ a1 (ix3 0 0 k) ≠ ⊤ := by
  have e := congrFun h ix0
  dsimp only [fn] at e
  haveI : Subsingleton S_.Idx := ⟨fun a b => funext fun i => i.elim0⟩
  have e1 := Host.reduce_andi_all _ _ _ _ _ e (ix3 0 0 k)
  revert e1
  pointwise
  intro e2
  have e3 : max (a1 (ix3 0 0 k) : EReal) (-a1 (ix3 0 0 k)) < ⊤ := by
    rw [← ofBits_inf]
    by_contra hn
    refine absurd e2 ?_
    show BitVec.ofBool (decide (max (a1 (ix3 0 0 k) : EReal) (-a1 (ix3 0 0 k)) < Ideal.ofBits .f32 2139095040#32)) ≠ 1#1
    rw [decide_eq_false hn]
    decide
  constructor
  · intro hb
    rw [hb] at e3
    simp at e3
  · intro ht
    rw [ht] at e3
    simp at e3

end Cert.Finite

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KValue
public import proofs.«01_k».proof.Proof.Finite
public import Idealize.ShloMosaic.Lib.Quiescent

@[expose] public section

noncomputable section

namespace Cert.Proof

open Idealize.ShloMosaic Idealize.SL.Sem

/-- The kernel leaves its arguments and its semaphores as they were. -/
theorem quiescent_Kernel : @Cert.quiescent_Kernel Cert.Kernel.Gen.facts := by
  intro m g _
  exact Cert.Kernel.Gen.frame m g

/-- So does the kernel at the extended reals. -/
theorem quiescent_KernelIdeal : @Cert.quiescent_KernelIdeal Cert.KernelIdeal.Gen.facts := by
  intro m g _
  exact Cert.KernelIdeal.Gen.frame m g

/-- So does the reference. -/
theorem quiescent_ReferenceIdeal : @Cert.quiescent_ReferenceIdeal Cert.ReferenceIdeal.Gen.facts := by
  intro m g _
  exact (θ_run _ _ _).mono (fun r h => ⟨fun c => (h c).2, sem_eq_zero_of_no_sems rfl _⟩) (Cert.ReferenceIdeal.Value.run m g)

/-- Kernel and reference end with equal results where the vector is finite. -/
theorem algebraic : @Cert.algebraic_KernelIdeal_ReferenceIdeal_pre_phi_finite Cert.KernelIdeal.Gen.facts Cert.ReferenceIdeal.Gen.facts Cert.Finite.facts := by
  intro m g m' g' hpre hagree
  refine ⟨fun c => ReferenceIdeal.Parts.out (F := Ideal) (KernelIdeal.Final.argX m c) (KernelIdeal.Final.argPhi m c) (KernelIdeal.Final.argPos m c), ?_, ?_⟩
  · refine (θ_run _ _ _).mono (fun r h c => ⟨(h c).1.trans ?_, (h c).2⟩) (Cert.KernelIdeal.Value.run_blocks m g)
    letI := Cert.Finite.facts
    exact KernelIdeal.Final.final m c fun k => Cert.Finite.entries _ _ _ (hpre c) k
  · refine (θ_run _ _ _).mono (fun r h c => ⟨(h c).1.trans ?_, (h c).2⟩) (Cert.ReferenceIdeal.Value.run m' g')
    refine (ReferenceIdeal.Parts.res_eq m' c).trans ?_
    rw [(hagree c).1, (hagree c).2.1, (hagree c).2.2]

/-- Everything claimed. -/
theorem claim : Cert.Claim :=
  ⟨Cert.Kernel.Gen.facts, Cert.KernelIdeal.Gen.facts, Cert.ReferenceIdeal.Gen.facts, Cert.Finite.facts,
    quiescent_Kernel, quiescent_KernelIdeal, fun m g _ => quiescent_KernelIdeal m g trivial, quiescent_ReferenceIdeal,
    fun m g _ => quiescent_ReferenceIdeal m g trivial, trivial, algebraic⟩

end Cert.Proof

end
